-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plastic_path_finite [hPre_plastic_path_finite : Cert.Pre_plastic_path_finite.Facts] (m : (ℓ : Loc Cert.KernelIdeal.nD Cert.KernelIdeal.τ Cert.KernelIdeal.sig) → Buf (Elt Ideal) ℓ) : Prop :=
  ∀ c : Dev Cert.KernelIdeal.nD,
    (Cert.Pre_plastic_path_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_plastic_path_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_plastic_path_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plastic_path_finite [hPre_plastic_path_finite : Cert.Pre_plastic_path_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plastic_path_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_plastic_path_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_plastic_path_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_plastic_path_finite [hKernelIdeal : Cert.KernelIdeal.Facts] [hPre_plastic_path_finite : Cert.Pre_plastic_path_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plastic_path_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_plastic_path_finite [hReferenceIdeal : Cert.ReferenceIdeal.Facts] [hPre_plastic_path_finite : Cert.Pre_plastic_path_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plastic_path_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_plastic_path_finite [hKernelIdeal : Cert.KernelIdeal.Facts] [hReferenceIdeal : Cert.ReferenceIdeal.Facts] [hPre_plastic_path_finite : Cert.Pre_plastic_path_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plastic_path_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_plastic_path_finite : Cert.Pre_plastic_path_finite.Facts),
    quiescent_Kernel (hKernel := hKernel)
    ∧ quiescent_KernelIdeal (hKernelIdeal := hKernelIdeal)
    ∧ quiescent_KernelIdeal_pre_plastic_path_finite (hKernelIdeal := hKernelIdeal) (hPre_plastic_path_finite := hPre_plastic_path_finite)
    ∧ quiescent_ReferenceIdeal (hReferenceIdeal := hReferenceIdeal)
    ∧ quiescent_ReferenceIdeal_pre_plastic_path_finite (hReferenceIdeal := hReferenceIdeal) (hPre_plastic_path_finite := hPre_plastic_path_finite)
    ∧ preserves_Kernel_KernelIdeal
    ∧ algebraic_KernelIdeal_ReferenceIdeal_pre_plastic_path_finite (hKernelIdeal := hKernelIdeal) (hReferenceIdeal := hReferenceIdeal) (hPre_plastic_path_finite := hPre_plastic_path_finite)
-- ==== Pre_plastic_path_finite.lean ====
abbrev S256x512 : Shape := ⟨2, ![256, 512]⟩
abbrev S256x512x512 : Shape := ⟨3, ![256, 512, 512]⟩
abbrev S512x2048 : Shape := ⟨2, ![512, 2048]⟩
abbrev S2048 : Shape := ⟨1, ![2048]⟩
abbrev S512x512 : Shape := ⟨2, ![512, 512]⟩
abbrev S1x1x512 : Shape := ⟨3, ![1, 1, 512]⟩
abbrev S512x1 : Shape := ⟨2, ![512, 1]⟩
abbrev S1x512 : Shape := ⟨2, ![1, 512]⟩
abbrev S_ : Shape := ⟨0, ![]⟩

class Facts : Prop where
  bcast_S_S256x512 : S_.BroadcastsInDim S256x512 (![] : Fin 0 → Fin S256x512.rank)
  bcast_S_S256x512x512 : S_.BroadcastsInDim S256x512x512 (![] : Fin 0 → Fin S256x512x512.rank)
  bcast_S_S1x1x512 : S_.BroadcastsInDim S1x1x512 (![] : Fin 0 → Fin S1x1x512.rank)

variable [Facts]

def fn {F : FTy → Type} [FloatOps F] (main_arg0 : FVec F S256x512 .f32) (main_arg1 : FVec F S256x512 .f32) (main_arg2 : FVec F S256x512 .f32) (main_arg3 : FVec F S256x512x512 .f32) (main_arg4 : FVec F S512x2048 .f32) (main_arg5 : FVec F S512x2048 .f32) (main_arg6 : FVec F S2048 .f32) (main_arg7 : FVec F S512x512 .f32) (main_arg8 : FVec F S1x1x512 .f32) (main_arg9 : FVec F S512x1 .f32) (main_arg10 : FVec F S1x512 .f32) : IVec S256x512 1 × IVec S256x512x512 1 × IVec S1x1x512 1 :=
  let main_v0 : FVec F S256x512 .f32 := Host.absf main_arg1
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S256x512x512 .f32 := Host.absf main_arg3
  let main_cst_0 : FVec F S_ .f32 := constant S_ .f32 0x7F800000#32
  let main_v4 : FVec F S256x512x512 .f32 := broadcastInDim S256x512x512 ![] bcast_S_S256x512x512 main_cst_0
  let main_v5 : IVec S256x512x512 1 := cmpf .olt main_v3 main_v4
  let main_v6 : FVec F S1x1x512 .f32 := Host.absf main_arg8
  let main_cst_1 : FVec F S_ .f32 := constant S_ .f32 0x7F800000#32
  let main_v7 : FVec F S1x1x512 .f32 := broadcastInDim S1x1x512 ![] bcast_S_S1x1x512 main_cst_1
  let main_v8 : IVec S1x1x512 1 := cmpf .olt main_v6 main_v7
  (main_v2, main_v5, main_v8)
-- ==== Kernel.lean ====
abbrev S256x512 : Shape := ⟨2, ![256, 512]⟩
abbrev S256x512x512 : Shape := ⟨3, ![256, 512, 512]⟩
abbrev S512x2048 : Shape := ⟨2, ![512, 2048]⟩
abbrev S2048 : Shape := ⟨1, ![2048]⟩
abbrev S512x512 : Shape := ⟨2, ![512, 512]⟩
abbrev S1x1x512 : Shape := ⟨3, ![1, 1, 512]⟩
abbrev S512x1 : Shape := ⟨2, ![512, 1]⟩
abbrev S1x512 : Shape := ⟨2, ![1, 512]⟩
abbrev S1x2048 : Shape := ⟨2, ![1, 2048]⟩
abbrev S8x512 : Shape := ⟨2, ![8, 512]⟩
abbrev S8x512x512 : Shape := ⟨3, ![8, 512, 512]⟩
abbrev S8x512x1 : Shape := ⟨3, ![8, 512, 1]⟩
abbrev S8x2048 : Shape := ⟨2, ![8, 2048]⟩
abbrev S8x32x512 : Shape := ⟨3, ![8, 32, 512]⟩
abbrev S8x32x1 : Shape := ⟨3, ![8, 32, 1]⟩
abbrev S8 : Shape := ⟨1, ![8]⟩
abbrev S8x1 : Shape := ⟨2, ![8, 1]⟩
abbrev S8x1x512 : Shape := ⟨3, ![8, 1, 512]⟩

abbrev nBuf : Space → Nat
  | .hbm => 17
  | .vmem => 21
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512x512, .f32⟩
  | .hbm, ⟨4, _⟩ => ⟨S512x2048, .f32⟩
  | .hbm, ⟨5, _⟩ => ⟨S512x2048, .f32⟩
  | .hbm, ⟨6, _⟩ => ⟨S2048, .f32⟩
  | .hbm, ⟨7, _⟩ => ⟨S512x512, .f32⟩
  | .hbm, ⟨8, _⟩ => ⟨S1x1x512, .f32⟩
  | .hbm, ⟨9, _⟩ => ⟨S512x1, .f32⟩
  | .hbm, ⟨10, _⟩ => ⟨S1x512, .f32⟩
  | .hbm, ⟨11, _⟩ => ⟨S1x2048, .f32⟩
  | .hbm, ⟨12, _⟩ => ⟨S1x512, .f32⟩
  | .hbm, ⟨13, _⟩ => ⟨S1x512, .f32⟩
  | .hbm, ⟨14, _⟩ => ⟨S256x512, .f32⟩
  | .hbm, ⟨15, _⟩ => ⟨S256x512, .f32⟩
  | .hbm, ⟨16, _⟩ => ⟨S256x512x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512x512, .f32⟩
  | .local _ .vmem, ⟨7, _⟩ => ⟨S8x512x512, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512x512, .f32⟩
  | .local _ .vmem, ⟨20, _⟩ => ⟨S8x512x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S256x512 : Shape := ⟨2, ![256, 512]⟩
abbrev S256x512x512 : Shape := ⟨3, ![256, 512, 512]⟩
abbrev S512x2048 : Shape := ⟨2, ![512, 2048]⟩
abbrev S2048 : Shape := ⟨1, ![2048]⟩
abbrev S512x512 : Shape := ⟨2, ![512, 512]⟩
abbrev S1x1x512 : Shape := ⟨3, ![1, 1, 512]⟩
abbrev S512x1 : Shape := ⟨2, ![512, 1]⟩
abbrev S1x512 : Shape := ⟨2, ![1, 512]⟩
abbrev S256x2048 : Shape := ⟨2, ![256, 2048]⟩
abbrev S1x2048 : Shape := ⟨2, ![1, 2048]⟩
abbrev S_ : Shape := ⟨0, ![]⟩
abbrev S1x512x512 : Shape := ⟨3, ![1, 512, 512]⟩
abbrev S256x512x1 : Shape := ⟨3, ![256, 512, 1]⟩
abbrev S256x1x512 : Shape := ⟨3, ![256, 1, 512]⟩
abbrev S256x1 : Shape := ⟨2, ![256, 1]⟩

abbrev nBuf : Space → Nat
  | .hbm => 103
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512x512, .f32⟩
  | .hbm, ⟨4, _⟩ => ⟨S512x2048, .f32⟩
  | .hbm, ⟨5, _⟩ => ⟨S512x2048, .f32⟩
  | .hbm, ⟨6, _⟩ => ⟨S2048, .f32⟩
  | .hbm, ⟨7, _⟩ => ⟨S512x512, .f32⟩
  | .hbm, ⟨8, _⟩ => ⟨S1x1x512, .f32⟩
  | .hbm, ⟨9, _⟩ => ⟨S512x1, .f32⟩
  | .hbm, ⟨10, _⟩ => ⟨S1x512, .f32⟩
  | .hbm, ⟨11, _⟩ => ⟨S256x2048, .f32⟩
  | .hbm, ⟨12, _⟩ => ⟨S1x2048, .f32⟩
  | .hbm, ⟨13, _⟩ => ⟨S256x2048, .f32⟩
  | .hbm, ⟨14, _⟩ => ⟨S256x2048, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S512x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S_, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S512x512, .f32⟩
  | .hbm, ⟨37, _⟩ => ⟨S256x512, .f32⟩
  | .hbm, ⟨38, _⟩ => ⟨S256x512, .f32⟩
  | .hbm, ⟨39, _⟩ => ⟨S_, .f32⟩
  | .hbm, ⟨40, _⟩ => ⟨S256x512, .f32⟩
  | .hbm, ⟨41, _⟩ => ⟨S256x512, .f32⟩
  | .hbm, ⟨42, _⟩ => ⟨S_, .f32⟩
  | .hbm, ⟨43, _⟩ => ⟨S256x512, .f32⟩
  | .hbm, ⟨44, _⟩ => ⟨S256x512, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S256x512, .f32⟩
  | .hbm, ⟨49, _⟩ => ⟨S256x512, .f32⟩
  | .hbm, ⟨50, _⟩ => ⟨S_, .f32⟩
  | .hbm, ⟨51, _⟩ => ⟨S256x512, .f32⟩
  | .hbm, ⟨52, _⟩ => ⟨S256x512, .f32⟩
  | .hbm, ⟨53, _⟩ => ⟨S512x512, .f32⟩
  | .hbm, ⟨54, _⟩ => ⟨S256x512, .f32⟩
  | .hbm, ⟨55, _⟩ => ⟨S256x512, .f32⟩
  | .hbm, ⟨56, _⟩ => ⟨S_, .f32⟩
  | .hbm, ⟨57, _⟩ => ⟨S256x512, .f32⟩
  | .hbm, ⟨58, _⟩ => ⟨S256x512, .f32⟩
  | .hbm, ⟨59, _⟩ => ⟨S_, .f32⟩
  | .hbm, ⟨60, _⟩ => ⟨S256x512, .f32⟩
  | .hbm, ⟨61, _⟩ => ⟨S256x512, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S256x512, .f32⟩
  | .hbm, ⟨66, _⟩ => ⟨S256x512, .f32⟩
  | .hbm, ⟨67, _⟩ => ⟨S_, .f32⟩
  | .hbm, ⟨68, _⟩ => ⟨S256x512, .f32⟩
  | .hbm, ⟨69, _⟩ => ⟨S256x512, .f32⟩
  | .hbm, ⟨70, _⟩ => ⟨S256x512x512, .f32⟩
  | .hbm, ⟨71, _⟩ => ⟨S256x512x512, .f32⟩
  | .hbm, ⟨72, _⟩ => ⟨S1x512x512, .f32⟩
  | .hbm, ⟨73, _⟩ => ⟨S256x512x512, .f32⟩
  | .hbm, ⟨74, _⟩ => ⟨S256x512x512, .f32⟩
  | .hbm, ⟨75, _⟩ => ⟨S256x512, .f32⟩
  | .hbm, ⟨76, _⟩ => ⟨S256x512, .f32⟩
  | .hbm, ⟨77, _⟩ => ⟨S256x512, .f32⟩
  | .hbm, ⟨78, _⟩ => ⟨S256x512, .f32⟩
  | .hbm, ⟨79, _⟩ => ⟨S256x512, .f32⟩
  | .hbm, ⟨80, _⟩ => ⟨S256x512, .f32⟩
  | .hbm, ⟨81, _⟩ => ⟨S256x512, .f32⟩
  | .hbm, ⟨82, _⟩ => ⟨S256x512, .f32⟩
  | .hbm, ⟨83, _⟩ => ⟨S256x512x1, .f32⟩
  | .hbm, ⟨84, _⟩ => ⟨S256x1x512, .f32⟩
  | .hbm, ⟨85, _⟩ => ⟨S256x512x512, .f32⟩
  | .hbm, ⟨86, _⟩ => ⟨S256x512x512, .f32⟩
  | .hbm, ⟨87, _⟩ => ⟨S256x512x512, .f32⟩
  | .hbm, ⟨88, _⟩ => ⟨S256x1, .f32⟩
  | .hbm, ⟨89, _⟩ => ⟨S256x1, .f32⟩
  | .hbm, ⟨90, _⟩ => ⟨S256x512, .f32⟩
  | .hbm, ⟨91, _⟩ => ⟨S256x1x512, .f32⟩
  | .hbm, ⟨92, _⟩ => ⟨S256x512x512, .f32⟩
  | .hbm, ⟨93, _⟩ => ⟨S256x512x512, .f32⟩
  | .hbm, ⟨94, _⟩ => ⟨S256x512x512, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S256x512x512, .f32⟩
  | .hbm, ⟨99, _⟩ => ⟨S256x512x512, .f32⟩
  | .hbm, ⟨100, _⟩ => ⟨S_, .f32⟩
  | .hbm, ⟨101, _⟩ => ⟨S256x512x512, .f32⟩
  | .hbm, ⟨102, _⟩ => ⟨S256x512x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_7 : Ref sig .tc := ⟨.hbm, 56, rfl⟩
abbrev main_v27 : Ref sig .tc := ⟨.hbm, 57, rfl⟩
abbrev main_v28 : Ref sig .tc := ⟨.hbm, 58, rfl⟩
abbrev main_cst_8 : Ref sig .tc := ⟨.hbm, 59, rfl⟩
abbrev main_v29 : Ref sig .tc := ⟨.hbm, 60, rfl⟩
abbrev main_v30 : Ref sig .tc := ⟨.hbm, 61, rfl⟩
abbrev main_cst_9 : Ref sig .tc := ⟨.hbm, 62, rfl⟩
abbrev main_cst_10 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_11 : Ref sig .tc := ⟨.hbm, 95, rfl⟩
abbrev main_cst_12 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v57 : Ref sig .tc := ⟨.hbm, 102, rfl⟩

abbrev nD : Nat := 1
abbrev τ : Topo := Topo.v7x

variable {F : FTy → Type} [FloatOps F]
-- ==== Proof.Cell.lean ====
/-
  The plastic LSTM cell for ONE SAMPLE of the batch, over the extended reals, with no program in sight: its gates, its
  candidate, its new cell and hidden state, the modulation and the new Hebbian trace; and the one identity that lets
  the candidate be computed with the recurrent weights and the trace contracted apart from each other.
-/
module

public import Idealize.ShloMosaic.PureOps.Ideal.Laws

@[expose] public section

noncomputable section

namespace Cert.Cell

open Idealize.ShloMosaic

/-! ## The sample's data -/

/-- What one sample's step reads: the sample's own rows (`x`, `h`, `c` and its trace `hebb u v`, from hidden unit `u`
    to hidden unit `v`), and the weights, which all samples share. The four gates' columns lie side by side in
    `kern`, `recur` and `bias`: input 0–511, forget 512–1023, candidate 1024–1535, output 1536–2047. -/
structure Sample where
  x : Fin 512 → EReal
  h : Fin 512 → EReal
  c : Fin 512 → EReal
  hebb : Fin 512 → Fin 512 → EReal
  kern : Fin 512 → Fin 2048 → EReal
  recur : Fin 512 → Fin 2048 → EReal
  bias : Fin 2048 → EReal
  w : Fin 512 → Fin 512 → EReal
  alpha : Fin 512 → EReal
  h2mod : Fin 512 → EReal
  fanout : Fin 512 → EReal

namespace Sample

variable (s : Sample)

/-! ## The step -/

/-- The input's share of column `j`: the input row against the input weights, plus the bias. -/
def fromInput (j : Fin 2048) : EReal := (∑ k, s.x k * s.kern k j) + s.bias j

/-- A gate before it is squashed: the input's share and the hidden state's share of column `j`. -/
def gateArg (j : Fin 2048) : EReal := s.fromInput j + ∑ u, s.h u * s.recur u j

/-- Column `v` of the input gate. -/
abbrev colI (v : Fin 512) : Fin 2048 := ⟨v, by omega⟩
/-- Column `v` of the forget gate. -/
abbrev colF (v : Fin 512) : Fin 2048 := ⟨512 + v, by omega⟩
/-- Column `v` of the candidate. -/
abbrev colC (v : Fin 512) : Fin 2048 := ⟨1024 + v, by omega⟩
/-- Column `v` of the output gate. -/
abbrev colO (v : Fin 512) : Fin 2048 := ⟨1536 + v, by omega⟩

/-- The hard sigmoid: the line `0.2 z + 0.5`, cut off below at 0 and above at 1. -/
def hardSigmoid (z : EReal) : EReal :=
  min (Ideal.ofBits .f32 0x3F800000#32) (max (Ideal.ofBits .f32 0x00000000#32)
    (Ideal.ofBits .f32 0x3E4CCCCD#32 * z + Ideal.ofBits .f32 0x3F000000#32))

/-- The candidate, the plastic weight `w u v + alpha v * hebb u v` multiplied by the hidden state as a whole. -/
def cand (v : Fin 512) : EReal :=
  Ideal.tanh (s.fromInput (colC v) + ∑ u, s.h u * (s.w u v + s.alpha v * s.hebb u v))

/-- The candidate with the fixed weights and the trace contracted apart. -/
def candApart (v : Fin 512) : EReal :=
  Ideal.tanh ((s.fromInput (colC v) + ∑ u, s.h u * s.w u v) + s.alpha v * ∑ u, s.hebb u v * s.h u)

/-- The new cell state from a candidate `d`: the forget gate on the old state, the input gate on the candidate. -/
def cellOf (d : Fin 512 → EReal) (v : Fin 512) : EReal :=
  hardSigmoid (s.gateArg (colF v)) * s.c v + hardSigmoid (s.gateArg (colI v)) * d v

/-- The new hidden state from a candidate `d`: the output gate on the squashed cell state. -/
def hiddenOf (d : Fin 512 → EReal) (v : Fin 512) : EReal :=
  hardSigmoid (s.gateArg (colO v)) * Ideal.tanh (s.cellOf d v)

/-- The sample's modulation from a candidate `d`: the new hidden state read out to one number and squashed. -/
def modOf (d : Fin 512 → EReal) : EReal := Ideal.tanh (∑ v, s.hiddenOf d v * s.h2mod v)

/-- The new trace from a candidate `d`: the old one moved by modulation · fan-out · candidate · old hidden state, and cut
    off below at -2 and above at 2. -/
def traceOf (d : Fin 512 → EReal) (u v : Fin 512) : EReal :=
  min (Ideal.ofBits .f32 0x40000000#32) (max (Ideal.ofBits .f32 0xC0000000#32)
    (s.hebb u v + s.h u * ((s.modOf d * s.fanout v) * d v)))

/-! ## Contracting the plastic weights apart -/

/-- The sample's plastic path holds no infinity: its hidden state, its trace and the trace's gain are real numbers. -/
def Plastic : Prop :=
  (∀ u, s.h u ≠ ⊥ ∧ s.h u ≠ ⊤) ∧ (∀ u v, s.hebb u v ≠ ⊥ ∧ s.hebb u v ≠ ⊤) ∧ ∀ v, s.alpha v ≠ ⊥ ∧ s.alpha v ≠ ⊤

/-- A real factor distributes over a sum whose second term is real, whatever the first one is. -/
theorem coe_mul_add (a : ℝ) (b : EReal) (r : ℝ) : (a : EReal) * (b + (r : EReal)) = a * b + ((a * r : ℝ) : EReal) := by
  rw [EReal.coe_mul]
  induction b with
  | coe b => rw [← EReal.coe_add, ← EReal.coe_mul, ← EReal.coe_mul, ← EReal.coe_mul, ← EReal.coe_add, mul_add]
  | top =>
    rw [EReal.top_add_coe]
    rcases lt_trichotomy a 0 with h | h | h
    · rw [EReal.coe_mul_top_of_neg h, ← EReal.coe_mul, EReal.bot_add]
    · subst h; simp
    · rw [EReal.coe_mul_top_of_pos h, ← EReal.coe_mul, EReal.top_add_coe]
  | bot =>
    rw [EReal.bot_add]
    rcases lt_trichotomy a 0 with h | h | h
    · rw [EReal.coe_mul_bot_of_neg h, ← EReal.coe_mul, EReal.top_add_coe]
    · subst h; simp
    · rw [EReal.coe_mul_bot_of_pos h, ← EReal.coe_mul, EReal.bot_add]

/-- The sum of plastic products is the sum over the fixed weights plus the gain times the sum over the trace, once hidden
    state, gain and trace are real; the fixed weights may be infinite. -/
theorem sum_plastic {ι : Type} [Fintype ι] (h e : ι → EReal) (w : ι → EReal) (a : EReal)
    (hh : ∀ i, h i ≠ ⊥ ∧ h i ≠ ⊤) (he : ∀ i, e i ≠ ⊥ ∧ e i ≠ ⊤) (ha : a ≠ ⊥ ∧ a ≠ ⊤) :
    ∑ i, h i * (w i + a * e i) = (∑ i, h i * w i) + a * ∑ i, e i * h i := by
  have real (z : EReal) (hz : z ≠ ⊥ ∧ z ≠ ⊤) : ∃ r : ℝ, z = r := ⟨z.toReal, (EReal.coe_toReal hz.2 hz.1).symm⟩
  obtain ⟨a, rfl⟩ := real a ha
  choose h' hh' using fun i => real (h i) (hh i)
  choose e' he' using fun i => real (e i) (he i)
  have coeSum (f : ι → ℝ) : ∑ i, ((f i : ℝ) : EReal) = ((∑ i, f i : ℝ) : EReal) :=
    (map_sum (⟨⟨Real.toEReal, EReal.coe_zero⟩, EReal.coe_add⟩ : ℝ →+ EReal) f Finset.univ).symm
  simp only [hh', he']
  simp only [← EReal.coe_mul]
  rw [coeSum, ← EReal.coe_mul, Finset.mul_sum, ← coeSum, ← Finset.sum_add_distrib]
  refine Finset.sum_congr rfl fun i _ => ?_
  rw [coe_mul_add, mul_comm (e' i), mul_left_comm]

/-- So on a real plastic path the two ways of computing the candidate agree. -/
theorem candApart_eq (hs : s.Plastic) : s.candApart = s.cand := by
  funext v
  unfold candApart cand
  rw [sum_plastic s.h (fun u => s.hebb u v) (fun u => s.w u v) (s.alpha v) hs.1 (fun u => hs.2.1 u v) (hs.2.2 v),
    add_assoc]

end Sample

/-! ## Sixteen partial sums -/

/-- Sixteen sums over thirty-two neighbours each, added one after the other onto zero, are the sum over all 512. -/
theorem sum_chunks (f : Fin 512 → EReal) (g : Fin 16 → Fin 32 → EReal)
    (hg : ∀ k j, g k j = f ⟨32 * k + j, by omega⟩) :
    (∑ k, ∑ j, g k j) = ∑ u, f u := by
  rw [← Fintype.sum_prod_type', ← Equiv.sum_comp (finProdFinEquiv (m := 16) (n := 32))]
  refine Finset.sum_congr rfl fun p _ => ?_
  rw [hg]
  exact congrArg f (Fin.ext (by simp [finProdFinEquiv, add_comm]))

/-- A sum over sixteen terms, added one after the other. -/
theorem sum_sixteen (f : Fin 16 → EReal) :
    ∑ k, f k = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

end Cert.Cell

end
-- ==== Proof.Batch.lean ====
/-
  The step of the whole batch: the sample that stands at row `b` of the argument arrays, and the three result arrays that
  the cell's step makes of all 256 samples.
-/
module

public import proofs.«01_k».proof.Proof.Cell
public import Idealize.ShloMosaic.Lib.Pointwise

@[expose] public section

noncomputable section

namespace Cert.Batch

open Idealize.ShloMosaic Cert.Cell

/-- A matrix of extended reals. -/
abbrev Mat (a b : Nat) := FVec Ideal ⟨2, ![a, b]⟩ .f32
/-- A three-axis array of extended reals. -/
abbrev Cube (a b c : Nat) := FVec Ideal ⟨3, ![a, b, c]⟩ .f32

/-- The eleven argument arrays of the step. -/
structure Args where
  x : Mat 256 512
  h : Mat 256 512
  c : Mat 256 512
  hebb : Cube 256 512 512
  kern : Mat 512 2048
  recur : Mat 512 2048
  bias : FVec Ideal ⟨1, ![2048]⟩ .f32
  w : Mat 512 512
  alpha : Cube 1 1 512
  h2mod : Mat 512 1
  fanout : Mat 1 512

namespace Args

variable (a : Args)

/-- The sample at row `b`. -/
abbrev sample (b : Fin 256) : Sample where
  x k := a.x (ix2 b k)
  h u := a.h (ix2 b u)
  c v := a.c (ix2 b v)
  hebb u v := a.hebb (ix3 b u v)
  kern k j := a.kern (ix2 k j)
  recur u j := a.recur (ix2 u j)
  bias j := a.bias (ix1 j)
  w u v := a.w (ix2 u v)
  alpha v := a.alpha (ix3 0 0 v)
  h2mod v := a.h2mod (ix2 v 0)
  fanout v := a.fanout (ix2 0 v)

/-- The new hidden states, each sample's candidate being `d b`. -/
def hiddenBy (d : Sample → Fin 512 → EReal) : Mat 256 512 :=
  fun i => (a.sample (i 0)).hiddenOf (d (a.sample (i 0))) (i 1)

/-- The new cell states. -/
def cellBy (d : Sample → Fin 512 → EReal) : Mat 256 512 :=
  fun i => (a.sample (i 0)).cellOf (d (a.sample (i 0))) (i 1)

/-- The new traces. -/
def traceBy (d : Sample → Fin 512 → EReal) : Cube 256 512 512 :=
  fun i => (a.sample (i 0)).traceOf (d (a.sample (i 0))) (i 1) (i 2)

variable (d : Sample → Fin 512 → EReal)

/-- The hidden state of sample `b` at unit `v` is at the index with these coordinates. -/
theorem hiddenBy_at (i : (⟨2, ![256, 512]⟩ : Shape).Idx) (b : Fin 256) (v : Fin 512) (h0 : (i 0 : ℕ) = b) (h1 : (i 1 : ℕ) = v) :
    a.hiddenBy d i = (a.sample b).hiddenOf (d (a.sample b)) v := by
  obtain rfl : i 0 = b := Fin.ext h0
  obtain rfl : i 1 = v := Fin.ext h1
  rfl

/-- The cell state of sample `b` at unit `v`. -/
theorem cellBy_at (i : (⟨2, ![256, 512]⟩ : Shape).Idx) (b : Fin 256) (v : Fin 512) (h0 : (i 0 : ℕ) = b) (h1 : (i 1 : ℕ) = v) :
    a.cellBy d i = (a.sample b).cellOf (d (a.sample b)) v := by
  obtain rfl : i 0 = b := Fin.ext h0
  obtain rfl : i 1 = v := Fin.ext h1
  rfl

/-- The trace of sample `b` from unit `u` to unit `v`. -/
theorem traceBy_at (i : (⟨3, ![256, 512, 512]⟩ : Shape).Idx) (b : Fin 256) (u v : Fin 512) (h0 : (i 0 : ℕ) = b)
    (h1 : (i 1 : ℕ) = u) (h2 : (i 2 : ℕ) = v) :
    a.traceBy d i = (a.sample b).traceOf (d (a.sample b)) u v := by
  obtain rfl : i 0 = b := Fin.ext h0
  obtain rfl : i 1 = u := Fin.ext h1
  obtain rfl : i 2 = v := Fin.ext h2
  rfl

/-- The hidden states, the traces and the traces' gains of the whole batch are real numbers. -/
def Plastic : Prop :=
  (∀ i, a.h i ≠ ⊥ ∧ a.h i ≠ ⊤) ∧ (∀ i, a.hebb i ≠ ⊥ ∧ a.hebb i ≠ ⊤) ∧ ∀ i, a.alpha i ≠ ⊥ ∧ a.alpha i ≠ ⊤

variable {a}

/-- On a real plastic path every sample's two candidates agree. -/
theorem Plastic.cand (ha : a.Plastic) (b : Fin 256) : (a.sample b).candApart = (a.sample b).cand :=
  (a.sample b).candApart_eq ⟨fun _ => ha.1 _, fun _ _ => ha.2.1 _, fun _ => ha.2.2 _⟩

/-- So the hidden states from either candidate are the same, … -/
theorem Plastic.hidden (ha : a.Plastic) : a.hiddenBy Sample.candApart = a.hiddenBy Sample.cand :=
  funext fun i => congrArg (fun d => (a.sample (i 0)).hiddenOf d (i 1)) (ha.cand (i 0))

/-- … the cell states too, … -/
theorem Plastic.cell (ha : a.Plastic) : a.cellBy Sample.candApart = a.cellBy Sample.cand :=
  funext fun i => congrArg (fun d => (a.sample (i 0)).cellOf d (i 1)) (ha.cand (i 0))

/-- … and the traces. -/
theorem Plastic.trace (ha : a.Plastic) : a.traceBy Sample.candApart = a.traceBy Sample.cand :=
  funext fun i => congrArg (fun d => (a.sample (i 0)).traceOf d (i 1) (i 2)) (ha.cand (i 0))

end Args

end Cert.Batch

end
-- ==== Proof.Block.lean ====
/-
  What the kernel's body computes from one block of eight samples, read at an index: each named value of the body at a
  row `r` of the block is the plastic LSTM cell (`Cell.lean`) of that row's sample. The body contracts the fixed
  recurrent weights and the trace apart, the trace in sixteen chunks of 32 hidden units, so its candidate is
  `candApart`; everything after that is the cell's step from that candidate.
-/
module

public import proofs.«01_k».proof.Proof.Cell
public import proofs.«01_k».proof.Proof.Gen.KernelIdeal.Frame
public import Idealize.ShloMosaic.Lib.Pipeline.ValueKit

@[expose] public section

set_option maxRecDepth 16384

noncomputable section

namespace Cert.Block

open Idealize.ShloMosaic Cert.KernelIdeal Cert.KernelIdeal.Gen Cert.Cell

/-- Row `r` of a block of eight samples, with the shared weights: `x0`, `x1`, `x2` are the rows of input, hidden and cell
    state, `x3` the traces, and `x4` to `x10` the weights as the kernel holds them. -/
abbrev rowSample (x0 x1 x2 : FVec Ideal S8x512 .f32) (x3 : FVec Ideal S8x512x512 .f32) (x4 x5 : FVec Ideal S512x2048 .f32)
    (x6 : FVec Ideal S1x2048 .f32) (x7 : FVec Ideal S512x512 .f32) (x8 x9 x10 : FVec Ideal S1x512 .f32) (r : Fin 8) : Sample where
  x k := x0 (ix2 r k)
  h u := x1 (ix2 r u)
  c v := x2 (ix2 r v)
  hebb u v := x3 (ix3 r u v)
  kern k j := x4 (ix2 k j)
  recur u j := x5 (ix2 u j)
  bias j := x6 (ix2 0 j)
  w u v := x7 (ix2 u v)
  alpha v := x8 (ix2 0 v)
  h2mod v := x9 (ix2 0 v)
  fanout v := x10 (ix2 0 v)

variable (x0 x1 x2 : FVec Ideal S8x512 .f32) (x3 : FVec Ideal S8x512x512 .f32) (x4 x5 : FVec Ideal S512x2048 .f32)
  (x6 : FVec Ideal S1x2048 .f32) (x7 : FVec Ideal S512x512 .f32) (x8 x9 x10 : FVec Ideal S1x512 .f32) (r : Fin 8) (v : Fin 512)

/-- The input gate. -/
theorem gateI : k0_pay34 (F := Ideal) x0 x1 x2 x3 x4 x5 x6 x7 x8 x9 x10 (ix2 r v)
    = Sample.hardSigmoid ((rowSample x0 x1 x2 x3 x4 x5 x6 x7 x8 x9 x10 r).gateArg (Sample.colI v)) := by
  pointwise [k0_pay34, k0_pay5, k0_pay2, k0_pay3, Sample.hardSigmoid, Sample.gateArg, Sample.fromInput]

/-- The forget gate. -/
theorem gateF : k0_pay35 (F := Ideal) x0 x1 x2 x3 x4 x5 x6 x7 x8 x9 x10 (ix2 r v)
    = Sample.hardSigmoid ((rowSample x0 x1 x2 x3 x4 x5 x6 x7 x8 x9 x10 r).gateArg (Sample.colF v)) := by
  pointwise [k0_pay35, k0_pay6, k0_pay2, k0_pay3, Sample.hardSigmoid, Sample.gateArg, Sample.fromInput]

/-- The output gate. -/
theorem gateO : k0_pay36 (F := Ideal) x0 x1 x2 x3 x4 x5 x6 x7 x8 x9 x10 (ix2 r v)
    = Sample.hardSigmoid ((rowSample x0 x1 x2 x3 x4 x5 x6 x7 x8 x9 x10 r).gateArg (Sample.colO v)) := by
  pointwise [k0_pay36, k0_pay8, k0_pay7, k0_pay2, k0_pay3, Sample.hardSigmoid, Sample.gateArg, Sample.fromInput]

/-- The candidate's share of the input and of the fixed recurrent weights. -/
theorem fixedPart : k0_pay37 (F := Ideal) x0 x1 x2 x3 x4 x5 x6 x7 x8 x9 x10 (ix2 r v)
    = (rowSample x0 x1 x2 x3 x4 x5 x6 x7 x8 x9 x10 r).fromInput (Sample.colC v) + ∑ u : Fin 512, x1 (ix2 r u) * x7 (ix2 u v) := by
  pointwise [k0_pay37, k0_pay9, k0_pay2, k0_pay4, Sample.fromInput]

/-- The trace contracted with the hidden state: the body's sixteen chunks are the sum over all 512 hidden units. -/
theorem tracePart : k0_pay38 (F := Ideal) x0 x1 x2 x3 x4 x5 x6 x7 x8 x9 x10 (ix2 r v)
    = ∑ u : Fin 512, x3 (ix3 r u v) * x1 (ix2 r u) := by
  pointwise [k0_pay38, k0_pay12, k0_pay11, k0_pay10, k0_pay33, k0_pay1]
  rw [← sum_chunks (fun u => x3 (ix3 r u v) * x1 (ix2 r u))
    (fun k j => x3 (ix3 r ⟨32 * k + j, by omega⟩ v) * x1 (ix2 r ⟨32 * k + j, by omega⟩)) (fun _ _ => rfl)]
  simp [sum_sixteen]

/-- The candidate. -/
theorem candPay : k0_pay13 (F := Ideal) (k0_pay37 x0 x1 x2 x3 x4 x5 x6 x7 x8 x9 x10) (k0_pay38 x0 x1 x2 x3 x4 x5 x6 x7 x8 x9 x10) (View.ld x8 r0_20) (ix2 r v)
    = (rowSample x0 x1 x2 x3 x4 x5 x6 x7 x8 x9 x10 r).candApart v := by
  pointwise [k0_pay13, Sample.candApart]
  rw [fixedPart, tracePart]

/-- The new cell state. -/
theorem cellPay : k0_pay14 (F := Ideal) (k0_pay34 x0 x1 x2 x3 x4 x5 x6 x7 x8 x9 x10) (k0_pay35 x0 x1 x2 x3 x4 x5 x6 x7 x8 x9 x10) (k0_pay37 x0 x1 x2 x3 x4 x5 x6 x7 x8 x9 x10) (k0_pay38 x0 x1 x2 x3 x4 x5 x6 x7 x8 x9 x10) (View.ld x8 r0_20) (View.ld x2 r0_0) (ix2 r v)
    = (rowSample x0 x1 x2 x3 x4 x5 x6 x7 x8 x9 x10 r).cellOf (rowSample x0 x1 x2 x3 x4 x5 x6 x7 x8 x9 x10 r).candApart v := by
  pointwise [k0_pay14, Sample.cellOf]
  rw [gateI, gateF, candPay]

/-- The new hidden state. -/
theorem hiddenPay : k0_pay15 (F := Ideal) (k0_pay34 x0 x1 x2 x3 x4 x5 x6 x7 x8 x9 x10) (k0_pay35 x0 x1 x2 x3 x4 x5 x6 x7 x8 x9 x10) (k0_pay36 x0 x1 x2 x3 x4 x5 x6 x7 x8 x9 x10) (k0_pay37 x0 x1 x2 x3 x4 x5 x6 x7 x8 x9 x10) (k0_pay38 x0 x1 x2 x3 x4 x5 x6 x7 x8 x9 x10) (View.ld x8 r0_20) (View.ld x2 r0_0) (ix2 r v)
    = (rowSample x0 x1 x2 x3 x4 x5 x6 x7 x8 x9 x10 r).hiddenOf (rowSample x0 x1 x2 x3 x4 x5 x6 x7 x8 x9 x10 r).candApart v := by
  pointwise [k0_pay15, Sample.hiddenOf]
  rw [gateO, cellPay]

/-- What a unit of hidden state moves the trace by: modulation · fan-out · candidate. -/
theorem movePay : k0_pay16 (F := Ideal) (k0_pay34 x0 x1 x2 x3 x4 x5 x6 x7 x8 x9 x10) (k0_pay35 x0 x1 x2 x3 x4 x5 x6 x7 x8 x9 x10) (k0_pay36 x0 x1 x2 x3 x4 x5 x6 x7 x8 x9 x10) (k0_pay37 x0 x1 x2 x3 x4 x5 x6 x7 x8 x9 x10) (k0_pay38 x0 x1 x2 x3 x4 x5 x6 x7 x8 x9 x10) (View.ld x8 r0_20) (View.ld x2 r0_0) (View.ld x9 r0_20) (View.ld x10 r0_20) (ix3 r 0 v)
    = ((rowSample x0 x1 x2 x3 x4 x5 x6 x7 x8 x9 x10 r).modOf (rowSample x0 x1 x2 x3 x4 x5 x6 x7 x8 x9 x10 r).candApart * x10 (ix2 0 v)) * (rowSample x0 x1 x2 x3 x4 x5 x6 x7 x8 x9 x10 r).candApart v := by
  pointwise [k0_pay16, Sample.modOf]
  simp only [hiddenPay, candPay]

/-! ## The three stored blocks -/

/-- The block of hidden states the body stores. -/
theorem out_hidden : out0_11 (F := Ideal) x0 x1 x2 x3 x4 x5 x6 x7 x8 x9 x10 (ix2 r v)
    = (rowSample x0 x1 x2 x3 x4 x5 x6 x7 x8 x9 x10 r).hiddenOf (rowSample x0 x1 x2 x3 x4 x5 x6 x7 x8 x9 x10 r).candApart v := by
  unfold out0_11
  rw [View.canon_unit_zero (by funext a; fin_cases a <;> rfl)]
  exact hiddenPay ..

/-- The block of cell states the body stores. -/
theorem out_cell : out0_12 (F := Ideal) x0 x1 x2 x3 x4 x5 x6 x7 x8 x9 x10 (ix2 r v)
    = (rowSample x0 x1 x2 x3 x4 x5 x6 x7 x8 x9 x10 r).cellOf (rowSample x0 x1 x2 x3 x4 x5 x6 x7 x8 x9 x10 r).candApart v := by
  unfold out0_12
  rw [View.canon_unit_zero (by funext a; fin_cases a <;> rfl)]
  exact cellPay ..

/-- The block of traces the body stores, in sixteen pieces of 32 hidden units each. -/
theorem out_trace (u : Fin 512) : out0_13 (F := Ideal) x0 x1 x2 x3 x4 x5 x6 x7 x8 x9 x10 (ix3 r u v)
    = (rowSample x0 x1 x2 x3 x4 x5 x6 x7 x8 x9 x10 r).traceOf (rowSample x0 x1 x2 x3 x4 x5 x6 x7 x8 x9 x10 r).candApart u v := by
  unfold out0_13 k0_pay39
  canon_tiles y h
  all_goals
    idx_vars y
    obtain rfl : r = _ := Fin.ext h0
    obtain rfl : v = _ := Fin.ext h2
    obtain ⟨u, hu⟩ := u
    obtain rfl : u = _ := h1
    pointwise [k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay1, Sample.traceOf]
    rw [movePay]

end Cert.Block

end
-- ==== Proof.Arrays.lean ====
/-
  What the kernel's three result arrays hold after its run: point `t` of the grid takes rows `8 t` to `8 t + 7` of the
  batch, so what it writes back (`Block.lean`) is those rows of the batch's step (`Batch.lean`), and the 32 points cover
  the batch.
-/
module

public import proofs.«01_k».proof.Proof.Batch
public import proofs.«01_k».proof.Proof.Block

@[expose] public section

set_option maxRecDepth 16384

noncomputable section

namespace Cert.Arrays

open Idealize.ShloMosaic Idealize.ShloMosaic.TcCoe Idealize.SL.Sem
open Idealize.ShloMosaic.Pipeline (Dat)
open Cert.KernelIdeal Cert.KernelIdeal.Gen Cert.Cell Cert.Batch

variable (m : (ℓ : Loc nD τ sig) → Buf (Elt Ideal) ℓ) (g : Dev nD → PrngReg)

/-- The kernel's argument arrays on device `c`. -/
abbrev args (c : Dev nD) : Args where
  x := m ((c : Thread nD τ).loc main_arg0)
  h := m ((c : Thread nD τ).loc main_arg1)
  c := m ((c : Thread nD τ).loc main_arg2)
  hebb := m ((c : Thread nD τ).loc main_arg3)
  kern := m ((c : Thread nD τ).loc main_arg4)
  recur := m ((c : Thread nD τ).loc main_arg5)
  bias := m ((c : Thread nD τ).loc main_arg6)
  w := m ((c : Thread nD τ).loc main_arg7)
  alpha := m ((c : Thread nD τ).loc main_arg8)
  h2mod := m ((c : Thread nD τ).loc main_arg9)
  fanout := m ((c : Thread nD τ).loc main_arg10)

/-- Which block of its array each window holds at point `t`: the batch's windows block `t`, the weights' the whole array. -/
theorem idx : ∀ t : Fin cfg0.N,
    win0_0.index t = ![t.val, 0] ∧ win0_1.index t = ![t.val, 0] ∧ win0_2.index t = ![t.val, 0] ∧ win0_3.index t = ![t.val, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![t.val, 0] ∧ win0_12.index t = ![t.val, 0] ∧ win0_13.index t = ![t.val, 0, 0] :=
  (by decide +kernel : ∀ t : Fin grid0.N, _)

/-- Row `r` of the blocks at point `t` is the sample at row `b = 8 t + r` of the batch. -/
theorem rowSample_eq (c : Dev nD) (t : Fin cfg0.N) (r : Fin 8) (b : Fin 256) (hb : (b : ℕ) = t.val * 8 + r) :
    Block.rowSample (iblk m c 0 t) (iblk m c 1 t) (iblk m c 2 t) (iblk m c 3 t) (iblk m c 4 t) (iblk m c 5 t) (iblk m c 6 t)
      (iblk m c 7 t) (iblk m c 8 t) (iblk m c 9 t) (iblk m c 10 t) r = (args m c).sample b := by
  unfold Block.rowSample Args.sample
  congr 1
  all_goals
    funext
    blk_point [iblk, V, idx t]

/-- The hidden states: the batch's, each candidate computed apart. -/
theorem hidden (c : Dev nD) : (dats m 0 c).arrAt 11 (cfgs 0).N = (args m c).hiddenBy Sample.candApart := by
  refine (dats m 0 c).arrAt_eq_of_covers 11 _ (by decide +kernel) fun t _ y => ?_
  blk_simp
  rw [after0_11]
  idx_vars y
  have ht : t.val < 32 := lt_of_lt_of_eq t.isLt N_0
  rw [Block.out_hidden, rowSample_eq m c t y0 ⟨t.val * 8 + y0, by omega⟩ rfl]
  refine (Args.hiddenBy_at _ _ _ _ _ ?_ ?_).symm
  all_goals (blk_simp [idx t] <;> try omega)

/-- The cell states, likewise. -/
theorem cell (c : Dev nD) : (dats m 0 c).arrAt 12 (cfgs 0).N = (args m c).cellBy Sample.candApart := by
  refine (dats m 0 c).arrAt_eq_of_covers 12 _ (by decide +kernel) fun t _ y => ?_
  blk_simp
  rw [after0_12]
  idx_vars y
  have ht : t.val < 32 := lt_of_lt_of_eq t.isLt N_0
  rw [Block.out_cell, rowSample_eq m c t y0 ⟨t.val * 8 + y0, by omega⟩ rfl]
  refine (Args.cellBy_at _ _ _ _ _ ?_ ?_).symm
  all_goals (blk_simp [idx t] <;> try omega)

/-- The traces, likewise. -/
theorem trace (c : Dev nD) : (dats m 0 c).arrAt 13 (cfgs 0).N = (args m c).traceBy Sample.candApart := by
  refine (dats m 0 c).arrAt_eq_of_covers 13 _ (by decide +kernel) fun t _ y => ?_
  blk_simp
  rw [after0_13]
  idx_vars y
  have ht : t.val < 32 := lt_of_lt_of_eq t.isLt N_0
  rw [Block.out_trace, rowSample_eq m c t y0 ⟨t.val * 8 + y0, by omega⟩ rfl]
  refine (Args.traceBy_at _ _ _ _ _ _ ?_ ?_ ?_).symm
  all_goals (blk_simp [idx t] <;> try omega)

/-- Every run of the kernel ends with the batch's step in its results, each candidate computed apart. -/
theorem run : θ_run (defs (F := Ideal)) (onTc (τ := τ) (main (F := Ideal))) ⟨m, fun _ => 0, g⟩ fun r => ∀ c : Dev nD,
      r.2.mem ((c : Thread nD τ).loc main_v0_0) = (args m c).hiddenBy Sample.candApart
      ∧ r.2.mem ((c : Thread nD τ).loc main_v0_1) = (args m c).cellBy Sample.candApart
      ∧ r.2.mem ((c : Thread nD τ).loc main_v0_2) = (args m c).traceBy Sample.candApart :=
  (θ_run _ _ _).mono (fun _ h c => ⟨((h c).1 11).trans (hidden m c), ((h c).1 12).trans (cell m c),
    ((h c).1 13).trans (trace m c)⟩) (run_main m g)

end Cert.Arrays

end
-- ==== Proof.Reference.lean ====
/-
  What the reference's three results are: its array operations, grouped into the step's stages over the whole batch, read
  at an index, are the plastic LSTM cell (`Cell.lean`) of the index's sample, the plastic weight multiplied as a whole.
-/
module

public import proofs.«01_k».proof.Proof.Batch
public import proofs.«01_k».proof.Proof.Gen.ReferenceIdeal.Run

@[expose] public section

set_option maxRecDepth 16384

noncomputable section

namespace Cert.Reference

open Idealize.ShloMosaic Idealize.ShloMosaic.TcCoe Idealize.SL.Sem
open Cert.ReferenceIdeal Cert.ReferenceIdeal.Gen Cert.Cell Cert.Batch

/-! ## The reference's operations by stages -/

section Stages

variable (a : Args)

/-- The input against the input weights, plus the bias. -/
def fromInput : FVec Ideal S256x2048 .f32 :=
  addf (Host.dotGeneral dot_S256x512_S512x2048_S256x2048_1_0_0_1_n_n none a.x a.kern)
    (broadcastInDim S256x2048 ![0, 1] bcast_S1x2048_S256x2048_0_1 (broadcastInDim S1x2048 ![1] bcast_S2048_S1x2048_1 a.bias))

/-- The hard sigmoid of an array. -/
def squash (z : FVec Ideal S256x512 .f32) : FVec Ideal S256x512 .f32 :=
  minimumf (broadcastInDim S256x512 ![] bcast_S_S256x512 (id (constant S_ .f32 0x3F800000#32)))
    (maximumf (broadcastInDim S256x512 ![] bcast_S_S256x512 (id (constant S_ .f32 0x00000000#32)))
      (addf (mulf (broadcastInDim S256x512 ![] bcast_S_S256x512 (constant S_ .f32 0x3E4CCCCD#32)) z)
        (broadcastInDim S256x512 ![] bcast_S_S256x512 (constant S_ .f32 0x3F000000#32))))

/-- The input gate. -/
def gateI : FVec Ideal S256x512 .f32 :=
  squash (addf (extractStridedSlice S256x512 ![0, 0] (fromInput a) slices_S256x2048_S256x512_0_0)
    (Host.dotGeneral dot_S256x512_S512x512_S256x512_1_0_0_1_n_n none a.h
      (extractStridedSlice S512x512 ![0, 0] a.recur slices_S512x2048_S512x512_0_0)))

/-- The forget gate. -/
def gateF : FVec Ideal S256x512 .f32 :=
  squash (addf (extractStridedSlice S256x512 ![0, 512] (fromInput a) slices_S256x2048_S256x512_0_512)
    (Host.dotGeneral dot_S256x512_S512x512_S256x512_1_0_0_1_n_n none a.h
      (extractStridedSlice S512x512 ![0, 512] a.recur slices_S512x2048_S512x512_0_512)))

/-- The output gate. -/
def gateO : FVec Ideal S256x512 .f32 :=
  squash (addf (extractStridedSlice S256x512 ![0, 1536] (fromInput a) slices_S256x2048_S256x512_0_1536)
    (Host.dotGeneral dot_S256x512_S512x512_S256x512_1_0_0_1_n_n none a.h
      (extractStridedSlice S512x512 ![0, 1536] a.recur slices_S512x2048_S512x512_0_1536)))

/-- The candidate, over the plastic weights. -/
def cand : FVec Ideal S256x512 .f32 :=
  Host.tanh (addf (extractStridedSlice S256x512 ![0, 1024] (fromInput a) slices_S256x2048_S256x512_0_1024)
    (Host.dotGeneral dot_S256x512_S256x512x512_S256x512_1_1_n_2_0_0 none a.h
      (addf (broadcastInDim S256x512x512 ![0, 1, 2] bcast_S1x512x512_S256x512x512_0_1_2
          (broadcastInDim S1x512x512 ![1, 2] bcast_S512x512_S1x512x512_1_2 a.w))
        (mulf (broadcastInDim S256x512x512 ![0, 1, 2] bcast_S1x1x512_S256x512x512_0_1_2 a.alpha) a.hebb))))

/-- The new cell state. -/
def cell : FVec Ideal S256x512 .f32 := addf (mulf (gateF a) a.c) (mulf (gateI a) (cand a))

/-- The new hidden state. -/
def hidden : FVec Ideal S256x512 .f32 := mulf (gateO a) (Host.tanh (cell a))

/-- The modulation of each sample, fanned out to the hidden units. -/
def fanned : FVec Ideal S256x512 .f32 :=
  Host.dotGeneral dot_S256x1_S1x512_S256x512_1_0_0_1_n_n none
    (Host.tanh (Host.dotGeneral dot_S256x512_S512x1_S256x1_1_0_0_1_n_n none (hidden a) a.h2mod)) a.fanout

/-- The new trace. -/
def trace : FVec Ideal S256x512x512 .f32 :=
  minimumf (broadcastInDim S256x512x512 ![] bcast_S_S256x512x512 (id (constant S_ .f32 0x40000000#32)))
    (maximumf (broadcastInDim S256x512x512 ![] bcast_S_S256x512x512 (id (constant S_ .f32 0xC0000000#32)))
      (addf a.hebb (mulf
        (broadcastInDim S256x512x512 ![0, 1, 2] bcast_S256x1x512_S256x512x512_0_1_2
          (broadcastInDim S256x1x512 ![0, 2] bcast_S256x512_S256x1x512_0_2 (fanned a)))
        (mulf
          (broadcastInDim S256x512x512 ![0, 1, 2] bcast_S256x512x1_S256x512x512_0_1_2
            (broadcastInDim S256x512x1 ![0, 1] bcast_S256x512_S256x512x1_0_1 a.h))
          (broadcastInDim S256x512x512 ![0, 1, 2] bcast_S256x1x512_S256x512x512_0_1_2
            (broadcastInDim S256x1x512 ![0, 2] bcast_S256x512_S256x1x512_0_2 (cand a)))))))

/-! ## The stages read at a sample -/

variable (b : Fin 256) (v : Fin 512)

/-- The input share. -/
theorem fromInput_at (j : Fin 2048) : fromInput a (ix2 b j) = (a.sample b).fromInput j := by
  pointwise [fromInput, Sample.fromInput]

/-- The hard sigmoid. -/
theorem squash_at (z : FVec Ideal S256x512 .f32) : squash z (ix2 b v) = Sample.hardSigmoid (z (ix2 b v)) := by
  unfold squash
  simp only [id_eq]
  pointwise [Sample.hardSigmoid]

/-- The input gate. -/
theorem gateI_at : gateI a (ix2 b v) = Sample.hardSigmoid ((a.sample b).gateArg (Sample.colI v)) := by
  unfold gateI
  rw [squash_at]
  pointwise [Sample.gateArg]
  rw [fromInput_at]

/-- The forget gate. -/
theorem gateF_at : gateF a (ix2 b v) = Sample.hardSigmoid ((a.sample b).gateArg (Sample.colF v)) := by
  unfold gateF
  rw [squash_at]
  pointwise [Sample.gateArg]
  rw [fromInput_at]

/-- The output gate. -/
theorem gateO_at : gateO a (ix2 b v) = Sample.hardSigmoid ((a.sample b).gateArg (Sample.colO v)) := by
  unfold gateO
  rw [squash_at]
  pointwise [Sample.gateArg]
  rw [fromInput_at]

/-- The candidate. -/
theorem cand_at : cand a (ix2 b v) = (a.sample b).cand v := by
  pointwise [cand, Sample.cand]
  rw [fromInput_at]

/-- The cell state. -/
theorem cell_at : cell a (ix2 b v) = (a.sample b).cellOf (a.sample b).cand v := by
  pointwise [cell, Sample.cellOf]
  rw [gateF_at, gateI_at, cand_at]

/-- The hidden state. -/
theorem hidden_at : hidden a (ix2 b v) = (a.sample b).hiddenOf (a.sample b).cand v := by
  pointwise [hidden, Sample.hiddenOf]
  rw [gateO_at, cell_at]

/-- The fanned-out modulation. -/
theorem fanned_at : fanned a (ix2 b v) = (a.sample b).modOf (a.sample b).cand * a.fanout (ix2 0 v) := by
  pointwise [fanned, Sample.modOf]
  simp only [hidden_at, Finset.univ_unique, Finset.sum_singleton]
  rfl

/-- The trace: the reference multiplies candidate and hidden state first, which the order of the product does not notice. -/
theorem trace_at (u : Fin 512) : trace a (ix3 b u v) = (a.sample b).traceOf (a.sample b).cand u v := by
  unfold trace
  simp only [id_eq]
  pointwise [Sample.traceOf]
  rw [fanned_at, cand_at, mul_left_comm]

/-! ## The three results over the whole batch -/

/-- The reference's hidden states are the batch's. -/
theorem hidden_eq : hidden a = a.hiddenBy Sample.cand := by
  funext i
  idx_vars i
  exact hidden_at ..

/-- The reference's cell states are the batch's. -/
theorem cell_eq : cell a = a.cellBy Sample.cand := by
  funext i
  idx_vars i
  exact cell_at ..

/-- The reference's traces are the batch's. -/
theorem trace_eq : trace a = a.traceBy Sample.cand := by
  funext i
  idx_vars i
  exact trace_at ..

end Stages

/-! ## The reference's run -/

/-- The reference's argument arrays on device `c`. -/
abbrev args (m : (ℓ : Loc nD τ sig) → Buf (Elt Ideal) ℓ) (c : Dev nD) : Args where
  x := m ((c : Thread nD τ).loc main_arg0)
  h := m ((c : Thread nD τ).loc main_arg1)
  c := m ((c : Thread nD τ).loc main_arg2)
  hebb := m ((c : Thread nD τ).loc main_arg3)
  kern := m ((c : Thread nD τ).loc main_arg4)
  recur := m ((c : Thread nD τ).loc main_arg5)
  bias := m ((c : Thread nD τ).loc main_arg6)
  w := m ((c : Thread nD τ).loc main_arg7)
  alpha := m ((c : Thread nD τ).loc main_arg8)
  h2mod := m ((c : Thread nD τ).loc main_arg9)
  fanout := m ((c : Thread nD τ).loc main_arg10)

/-- Every run of the reference ends with the batch's step in its results, each candidate over the whole plastic weight. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v44) = (args m c).hiddenBy Sample.cand
      ∧ r.2.mem ((c : Thread nD τ).loc main_v42) = (args m c).cellBy Sample.cand
      ∧ r.2.mem ((c : Thread nD τ).loc main_v57) = (args m c).traceBy Sample.cand :=
  (θ_run _ _ _).mono (fun _ h c => ⟨(h c).1.trans (hidden_eq (args m c)), (h c).2.1.trans (cell_eq (args m c)),
    (h c).2.2.1.trans (trace_eq (args m c))⟩) (Value.run m g)

end Cert.Reference

end
-- ==== Proof.Precondition.lean ====
/-
  The precondition read: where its three masks are all ones, the hidden states, the traces and the traces' gains are real
  numbers, which is what the equality of the two candidates asks for.
-/
module

public import proofs.«01_k».proof.Defs
public import proofs.«01_k».proof.Proof.Arrays

@[expose] public section

noncomputable section

namespace Cert.Precondition

open Idealize.ShloMosaic Idealize.ShloMosaic.TcCoe Idealize.SL.Sem
open Cert.Cell Cert.Batch

/-- The shape facts the predicate states. -/
instance facts : Cert.Pre_plastic_path_finite.Facts where
  bcast_S_S256x512 := by decide
  bcast_S_S256x512x512 := by decide
  bcast_S_S1x1x512 := by decide

/-- The bound the predicate compares with is infinity. -/
theorem bound_eq : Ideal.ofBits .f32 0x7F800000#32 = ⊤ := by simp [Ideal.ofBits, Ideal.ieee]

/-- A number whose absolute value lies below infinity is real. -/
theorem real_of_abs_lt (z : EReal) (h : Ideal.cmp .olt (max z (-z)) (Ideal.ofBits .f32 0x7F800000#32) = 1#1) : z ≠ ⊥ ∧ z ≠ ⊤ := by
  rw [bound_eq] at h
  constructor <;> (rintro rfl; revert h; simp [Ideal.cmp])

/-- Under the precondition the batch's plastic path is real. -/
theorem plastic (m : (ℓ : Loc Cert.KernelIdeal.nD Cert.KernelIdeal.τ Cert.KernelIdeal.sig) → Buf (Elt Ideal) ℓ)
    (h : Cert.Pre_KernelIdeal_plastic_path_finite m) (c : Dev Cert.KernelIdeal.nD) : (Arrays.args m c).Plastic := by
  obtain ⟨h0, h1, h2⟩ := h c
  exact ⟨fun i => real_of_abs_lt _ (congrFun h0 i), fun i => real_of_abs_lt _ (congrFun h1 i),
    fun i => real_of_abs_lt _ (congrFun h2 i)⟩

end Cert.Precondition

end
-- ==== Proof.lean ====
/-
  The certificate of the plastic LSTM cell: the kernel and its idealization run, end and leave their arguments as they
  were; so does the reference; the idealization changed nothing; and, where the plastic path holds no infinity, kernel
  and reference leave the same three arrays, the new hidden states, cell states and traces.
-/
module

public import proofs.«01_k».proof.Defs
public import proofs.«01_k».proof.Proof.Arrays
public import proofs.«01_k».proof.Proof.Reference
public import proofs.«01_k».proof.Proof.Precondition
public import proofs.«01_k».proof.Proof.Gen.Kernel.Frame

@[expose] public section

noncomputable section

namespace Cert.Proof

open Idealize.ShloMosaic Idealize.ShloMosaic.TcCoe Idealize.SL.Sem
open Cert.Cell Cert.Batch

/-- The reference runs, ends and leaves its arguments as they were; it declares no semaphore, so every counter reads zero. -/
theorem frame_reference : Cert.quiescent_ReferenceIdeal := fun m g _ =>
  (θ_run Cert.ReferenceIdeal.defs _ _).mono
    (fun r h => ⟨fun c => (h c).2.2.2, sem_eq_zero_of_no_sems (by decide) r.2⟩) (Cert.ReferenceIdeal.Value.run m g)

/-- Kernel and reference leave the same three arrays: both are the batch's step, and on a real plastic path the kernel's
    candidate is the reference's. -/
theorem algebraic : Cert.algebraic_KernelIdeal_ReferenceIdeal_pre_plastic_path_finite := by
  intro m g m' g' hpre hagree
  have same (c : Dev Cert.KernelIdeal.nD) : Reference.args m' c = Arrays.args m c := by
    obtain ⟨e0, e1, e2, e3, e4, e5, e6, e7, e8, e9, e10⟩ := hagree c
    simp only [Reference.args, Arrays.args]
    congr 1
  have plastic := Precondition.plastic m hpre
  refine ⟨fun c => (Arrays.args m c).hiddenBy Sample.cand, fun c => (Arrays.args m c).cellBy Sample.cand,
    fun c => (Arrays.args m c).traceBy Sample.cand, ?_, ?_⟩
  · exact (θ_run Cert.KernelIdeal.defs _ _).mono
      (fun _ h c => ⟨(h.1 c).1.trans (plastic c).hidden, (h.1 c).2.1.trans (plastic c).cell,
        (h.1 c).2.2.trans (plastic c).trace, h.2.1 c⟩)
      (θ_run_and (Arrays.run m g) (Cert.KernelIdeal.Gen.frame m g))
  · exact (θ_run Cert.ReferenceIdeal.defs _ _).mono
      (fun _ h c => ⟨(h.1 c).1.trans (congrArg (fun a => a.hiddenBy Sample.cand) (same c)),
        (h.1 c).2.1.trans (congrArg (fun a => a.cellBy Sample.cand) (same c)),
        (h.1 c).2.2.trans (congrArg (fun a => a.traceBy Sample.cand) (same c)), h.2.1 c⟩)
      (θ_run_and (Reference.run m' g') (frame_reference m' g' trivial))

/-- Everything the certificate claims. -/
theorem claim : Cert.Claim :=
  ⟨Cert.Kernel.Gen.facts, Cert.KernelIdeal.Gen.facts, Cert.ReferenceIdeal.Gen.facts, Precondition.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
